-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512 : Shape := ⟨2, ![2, 512]⟩
abbrev S512 : Shape := ⟨1, ![512]⟩
abbrev S512x32 : Shape := ⟨2, ![512, 32]⟩
abbrev S2x27648 : Shape := ⟨2, ![2, 27648]⟩
abbrev S512x2 : Shape := ⟨2, ![512, 2]⟩
abbrev S512x1 : Shape := ⟨2, ![512, 1]⟩
abbrev S32x512 : Shape := ⟨2, ![32, 512]⟩
abbrev S32x27648 : Shape := ⟨2, ![32, 27648]⟩
abbrev S2x3456 : Shape := ⟨2, ![2, 3456]⟩
abbrev S32x3456 : Shape := ⟨2, ![32, 3456]⟩
abbrev S1x3456 : Shape := ⟨2, ![1, 3456]⟩
abbrev S512x3456 : Shape := ⟨2, ![512, 3456]⟩
abbrev S32x24x1152 : Shape := ⟨3, ![32, 24, 1152]⟩
abbrev S32x576x576 : Shape := ⟨3, ![32, 576, 576]⟩
abbrev S1x24x1152 : Shape := ⟨3, ![1, 24, 1152]⟩
abbrev S1x576x576 : Shape := ⟨3, ![1, 576, 576]⟩
abbrev S1x24x576 : Shape := ⟨3, ![1, 24, 576]⟩
abbrev S24x576 : Shape := ⟨2, ![24, 576]⟩

abbrev nBuf : Space → Nat
  | .hbm => 10
  | .vmem => 11
  | .smem => 0
  | _ => 0

abbrev bufTy : (tb : Table) → Fin (tcTables nBuf tb) → BufTy
  | .hbm, ⟨0, _⟩ => ⟨S2x512, .f32⟩
  | .hbm, ⟨1, _⟩ => ⟨S512, .f32⟩
  | .hbm, ⟨2, _⟩ => ⟨S512x32, .f32⟩
  | .hbm, ⟨3, _⟩ => ⟨S2x27648, .f32⟩
  | .hbm, ⟨4, _⟩ => ⟨S512x2, .f32⟩
  | .hbm, ⟨5, _⟩ => ⟨S512x1, .f32⟩
  | .hbm, ⟨6, _⟩ => ⟨S32x512, .f32⟩
  | .hbm, ⟨7, _⟩ => ⟨S32x27648, .f32⟩
  | .hbm, ⟨8, _⟩ => ⟨S32x24x1152, .f32⟩
  | .hbm, ⟨9, _⟩ => ⟨S32x576x576, .f32⟩
  | .local _ .vmem, ⟨0, _⟩ => ⟨S2x3456, .f32⟩
  | .local _ .vmem, ⟨1, _⟩ => ⟨S2x3456, .f32⟩
  | .local _ .vmem, ⟨2, _⟩ => ⟨S512x2, .f32⟩
  | .local _ .vmem, ⟨3, _⟩ => ⟨S512x1, .f32⟩
  | .local _ .vmem, ⟨4, _⟩ => ⟨S32x512, .f32⟩
  | .local _ .vmem, ⟨5, _⟩ => ⟨S32x3456, .f32⟩
  | .local _ .vmem, ⟨6, _⟩ => ⟨S32x3456, .f32⟩
  | .local _ .vmem, ⟨7, _⟩ => ⟨S1x24x1152, .f32⟩
  | .local _ .vmem, ⟨8, _⟩ => ⟨S1x24x1152, .f32⟩
  | .local _ .vmem, ⟨9, _⟩ => ⟨S1x576x576, .f32⟩
  | .local _ .vmem, ⟨10, _⟩ => ⟨S1x576x576, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x3456 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x3456 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x24x1152 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x576x576 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S2x512 : Shape := ⟨2, ![2, 512]⟩
abbrev S512 : Shape := ⟨1, ![512]⟩
abbrev S512x32 : Shape := ⟨2, ![512, 32]⟩
abbrev S2209x2 : Shape := ⟨2, ![2209, 2]⟩
abbrev S2 : Shape := ⟨1, ![2]⟩
abbrev S24 : Shape := ⟨1, ![24]⟩
abbrev S24x24 : Shape := ⟨2, ![24, 24]⟩
abbrev S1x24x24 : Shape := ⟨3, ![1, 24, 24]⟩
abbrev S2x24x24 : Shape := ⟨3, ![2, 24, 24]⟩
abbrev S2x576 : Shape := ⟨2, ![2, 576]⟩
abbrev S2x576x1 : Shape := ⟨3, ![2, 576, 1]⟩
abbrev S2x1x576 : Shape := ⟨3, ![2, 1, 576]⟩
abbrev S2x576x576 : Shape := ⟨3, ![2, 576, 576]⟩
abbrev S576x576x2 : Shape := ⟨3, ![576, 576, 2]⟩
abbrev S1x1x2 : Shape := ⟨3, ![1, 1, 2]⟩
abbrev S_ : Shape := ⟨0, ![]⟩
abbrev S576x576 : Shape := ⟨2, ![576, 576]⟩
abbrev S2209x512 : Shape := ⟨2, ![2209, 512]⟩
abbrev S1x512 : Shape := ⟨2, ![1, 512]⟩
abbrev S2209x32 : Shape := ⟨2, ![2209, 32]⟩
abbrev S331776 : Shape := ⟨1, ![331776]⟩
abbrev S331776x1 : Shape := ⟨2, ![331776, 1]⟩
abbrev S331776x32 : Shape := ⟨2, ![331776, 32]⟩
abbrev S576x576x32 : Shape := ⟨3, ![576, 576, 32]⟩
abbrev S32x576x576 : Shape := ⟨3, ![32, 576, 576]⟩

abbrev nBuf : Space → Nat
  | .hbm => 59
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S512, .f32⟩
  | .hbm, ⟨2, _⟩ => ⟨S512x32, .f32⟩
  | .hbm, ⟨3, _⟩ => ⟨S2209x2, .f32⟩
  | .hbm, ⟨4, _⟩ => ⟨S2, .i32⟩
  | .hbm, ⟨5, _⟩ => ⟨S2, .i32⟩
  | .hbm, ⟨6, _⟩ => ⟨S24, .i32⟩
  | .hbm, ⟨7, _⟩ => ⟨S24, .i32⟩
  | .hbm, ⟨8, _⟩ => ⟨S24x24, .i32⟩
  | .hbm, ⟨9, _⟩ => ⟨S24x24, .i32⟩
  | .hbm, ⟨10, _⟩ => ⟨S1x24x24, .i32⟩
  | .hbm, ⟨11, _⟩ => ⟨S1x24x24, .i32⟩
  | .hbm, ⟨12, _⟩ => ⟨S2x24x24, .i32⟩
  | .hbm, ⟨13, _⟩ => ⟨S2x576, .i32⟩
  | .hbm, ⟨14, _⟩ => ⟨S2x576x1, .i32⟩
  | .hbm, ⟨15, _⟩ => ⟨S2x1x576, .i32⟩
  | .hbm, ⟨16, _⟩ => ⟨S2x576x576, .i32⟩
  | .hbm, ⟨17, _⟩ => ⟨S2x576x576, .i32⟩
  | .hbm, ⟨18, _⟩ => ⟨S2x576x576, .i32⟩
  | .hbm, ⟨19, _⟩ => ⟨S576x576x2, .i32⟩
  | .hbm, ⟨20, _⟩ => ⟨S1x1x2, .i32⟩
  | .hbm, ⟨21, _⟩ => ⟨S576x576x2, .i32⟩
  | .hbm, ⟨22, _⟩ => ⟨S576x576x2, .i32⟩
  | .hbm, ⟨23, _⟩ => ⟨S1x1x2, .i32⟩
  | .hbm, ⟨24, _⟩ => ⟨S576x576x2, .i32⟩
  | .hbm, ⟨25, _⟩ => ⟨S576x576x2, .i32⟩
  | .hbm, ⟨26, _⟩ => ⟨S_, .i32⟩
  | .hbm, ⟨27, _⟩ => ⟨S576x576, .i32⟩
  | .hbm, ⟨28, _⟩ => ⟨S2209x512, .f32⟩
  | .hbm, ⟨29, _⟩ => ⟨S1x512, .f32⟩
  | .hbm, ⟨30, _⟩ => ⟨S2209x512, .f32⟩
  | .hbm, ⟨31, _⟩ => ⟨S2209x512, .f32⟩
  | .hbm, ⟨32, _⟩ => ⟨S_, .f32⟩
  | .hbm, ⟨33, _⟩ => ⟨S2209x512, .f32⟩
  | .hbm, ⟨34, _⟩ => ⟨S2209x512, .f32⟩
  | .hbm, ⟨35, _⟩ => ⟨S2209x32, .f32⟩
  | .hbm, ⟨36, _⟩ => ⟨S331776, .i32⟩
  | .hbm, ⟨37, _⟩ => ⟨S_, .i32⟩
  | .hbm, ⟨38, _⟩ => ⟨S331776, .i32⟩
  | .hbm, ⟨39, _⟩ => ⟨S331776, .i1⟩
  | .hbm, ⟨40, _⟩ => ⟨S_, .i32⟩
  | .hbm, ⟨41, _⟩ => ⟨S331776, .i32⟩
  | .hbm, ⟨42, _⟩ => ⟨S331776, .i32⟩
  | .hbm, ⟨43, _⟩ => ⟨S331776, .i32⟩
  | .hbm, ⟨44, _⟩ => ⟨S331776x1, .i32⟩
  | .hbm, ⟨45, _⟩ => ⟨S331776x32, .f32⟩
  | .hbm, ⟨46, _⟩ => ⟨S576x576x32, .f32⟩
  | .hbm, ⟨47, _⟩ => ⟨S32x576x576, .f32⟩
  | .hbm, ⟨48, _⟩ => ⟨S32x576x576, .f32⟩
  | .hbm, ⟨49, _⟩ => ⟨S32x576x576, .f32⟩
  | .hbm, ⟨50, _⟩ => ⟨S_, .f32⟩
  | .hbm, ⟨51, _⟩ => ⟨S32x576x576, .f32⟩
  | .hbm, ⟨52, _⟩ => ⟨S32x576x576, .f32⟩
  | .hbm, ⟨53, _⟩ => ⟨S_, .f32⟩
  | .hbm, ⟨54, _⟩ => ⟨S32x576x576, .f32⟩
  | .hbm, ⟨55, _⟩ => ⟨S32x576x576, .f32⟩
  | .hbm, ⟨56, _⟩ => ⟨S_, .f32⟩
  | .hbm, ⟨57, _⟩ => ⟨S32x576x576, .f32⟩
  | .hbm, ⟨58, _⟩ => ⟨S32x576x576, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_cst : Ref sig .tc := ⟨.hbm, 32, rfl⟩
abbrev main_call0_v0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Proof.Strip.lean ====
/- The first kernel region: every column of the strips is the two-layer network at that column's coordinate pair. -/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Strip

open Cert.KernelIdeal Cert.KernelIdeal.Gen Idealize.ShloMosaic Idealize.ShloMosaic.TcCoe Idealize.SL.Sem
open Idealize.ShloMosaic.Pipeline (Dat)

/-- Entry `(h, n)` of the strips: sixteen times the logistic function of output `h` of the network at column `n`
    of the coordinates. -/
def strip (C : FVec Ideal S2x27648 .f32) (A : FVec Ideal S512x2 .f32) (B : FVec Ideal S512x1 .f32)
    (D : FVec Ideal S32x512 .f32) : FVec Ideal S32x27648 .f32 := fun j =>
  Ideal.ofBits .f32 0x41800000#32 * Ideal.logistic (∑ k : Fin 512, D (ix2 (j 0) k)
    * max (A (ix2 k 0) * C (ix2 0 (j 1)) + A (ix2 k 1) * C (ix2 1 (j 1)) + B (ix2 k 0)) 0)

/-- The body's stored value at an entry. -/
theorem pay_at (c0 c1 : Vec Ideal S1x3456 .f32) (a0 a1 b : Vec Ideal S512x1 .f32) (d : Vec Ideal S32x512 .f32)
    (h : Fin 32) (n : Fin 3456) :
    k0_pay1 (F := Ideal) c0 c1 a0 a1 b d (ix2 h n)
      = Ideal.ofBits .f32 0x41800000#32 * Ideal.logistic (∑ k : Fin 512, d (ix2 h k)
          * max (a0 (ix2 k 0) * c0 (ix2 0 n) + a1 (ix2 k 0) * c1 (ix2 0 n) + b (ix2 k 0)) 0) := by
  pointwise [k0_pay1]

variable (V : (c : Dev nD) → (b : Ref sig .tc) → Buf (Elt Ideal) ((c : Thread nD τ).loc b))

/-- The coordinates' and the strips' blocks of grid point `t` are its 3456 columns; the weights are whole. -/
theorem idx : ∀ t : Fin cfg0.N, win0_0.index t = ![0, t.val] ∧ win0_1.index t = ![0, 0] ∧ win0_2.index t = ![0, 0]
    ∧ win0_3.index t = ![0, 0] ∧ win0_4.index t = ![0, t.val] :=
  (by decide +kernel : ∀ t : Fin grid0.N, _)

/-- What grid point `t` leaves in its block of the strips, at an index. -/
theorem point (c : Dev nD) (t : Fin cfg0.N) (y : S32x3456.Idx) :
    k0_pay1 (F := Ideal) (View.ld (iblk0 V c 0 t) r0_0) (View.ld (iblk0 V c 0 t) r0_1) (View.ld (iblk0 V c 1 t) r0_2)
      (View.ld (iblk0 V c 1 t) r0_3) (iblk0 V c 2 t) (iblk0 V c 3 t) y
      = strip (V c main_cst) (V c main_v0) (V c main_v1) (V c main_v2) (((cfg0.win 4).blk t).view.emb y) := by
  idx_vars y
  rw [pay_at]
  pointwise [strip]
  blk_point [iblk0, idx t]

/-- The first region's result array is the strips of the region's four operands. -/
theorem final (c : Dev nD) : (dat0 V c).arrAt 4 cfg0.N
    = strip (V c main_cst) (V c main_v0) (V c main_v1) (V c main_v2) := by
  refine (dat0 V c).arrAt_eq_of_covers 4 _ (by decide +kernel) fun t hf y => ?_
  blk_simp
  rw [after0_4]
  frame_out
  exact point V c t y

end Cert.KernelIdeal.Strip

end
-- ==== Proof.Expand.lean ====
/- The second kernel region moves elements only: row `p` of a result plane is a shifted window of strip row `p % 24`. -/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Expand

open Cert.KernelIdeal Cert.KernelIdeal.Gen Idealize.ShloMosaic Idealize.ShloMosaic.TcCoe Idealize.SL.Sem
open Idealize.ShloMosaic.Pipeline (Dat)

/-- The expansion of the strips: entry `(h, p, q)` of the result is entry `(h, p % 24, 24 (23 - p / 24) + q)`. -/
def spread (X : FVec Ideal S32x24x1152 .f32) : FVec Ideal S32x576x576 .f32 := fun j =>
  X (ix3 (j 0) ⟨(j 1 : ℕ) % 24, by omega⟩
    ⟨(23 - (j 1 : ℕ) / 24) * 24 + (j 2 : ℕ), by have h : (j 2 : ℕ) < 576 := (j 2).isLt; omega⟩)

variable (V : (c : Dev nD) → (b : Ref sig .tc) → Buf (Elt Ideal) ((c : Thread nD τ).loc b))

/-- The block of either window at grid point `t` is plane `t`. -/
theorem idx : ∀ t : Fin cfg1.N, win1_0.index t = ![t.val, 0, 0] ∧ win1_1.index t = ![t.val, 0, 0] :=
  (by decide +kernel : ∀ t : Fin grid1.N, _)

/-- What grid point `t` leaves in its result block, at an index: the expansion of the strips' array there. -/
theorem point (c : Dev nD) (t : Fin cfg1.N) (y : S1x576x576.Idx) :
    out1_1 (F := Ideal) (iblk1 V c 0 t) y = spread (V c main_v4) (((cfg1.win 1).blk t).view.emb y) := by
  unfold out1_1
  canon_tiles x h
  all_goals
    open_payloads
    pointwise [spread]
    blk_point [iblk1, idx t]

/-- The second region's result array is the expansion of the strips' array. -/
theorem final (c : Dev nD) : (dat1 V c).arrAt 1 cfg1.N = spread (V c main_v4) := by
  refine (dat1 V c).arrAt_eq_of_covers 1 _ (by decide +kernel) fun t hf y => ?_
  blk_simp
  rw [after1_1]
  exact point V c t y

end Cert.KernelIdeal.Expand

end
-- ==== Proof.Whole.lean ====
/- The kernel's run over the reals: its result as one expression of the launched arguments. -/
module

public import proofs.«01_k».proof.Proof.Strip
public import proofs.«01_k».proof.Proof.Expand

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The coordinates which the kernel holds as a constant. -/
def coords : FVec Ideal S2x27648 .f32 := fun i => FloatOps.ofBits .f32 (lit0 (S2x27648.rowMajor i))

/-- The kernel's result as an expression of its three arguments. -/
def value (x : FVec Ideal S2x512 .f32) (b : FVec Ideal S512 .f32) (w : FVec Ideal S512x32 .f32) : FVec Ideal S32x576x576 .f32 :=
  Expand.spread (shapeCast S32x24x1152 (Strip.strip coords
    (transpose S512x2 [1, 0] x transposes_S2x512_S512x2_1_0) (shapeCast S512x1 b shapeCasts_S512_S512x1)
    (transpose S32x512 [1, 0] w transposes_S512x32_S32x512_1_0)) shapeCasts_S32x27648_S32x24x1152)

/-- What the result's buffer holds when both kernels are through. -/
theorem kernelValue (c : Dev nD) : W4 m ρ c (Proc.devRef .tc main_v5)
    = value (m ((c.tc : Thread nD τ).loc main_arg0)) (m ((c.tc : Thread nD τ).loc main_arg1)) (m ((c.tc : Thread nD τ).loc main_arg2)) := by
  have h1 : V3 m ρ c main_v4 = shapeCast S32x24x1152 (V2 m ρ c main_v3) shapeCasts_S32x27648_S32x24x1152 := by
    show StableHlo.after hostOps1 (W2 m ρ c) _ = _
    after_results
    rfl
  have h0 : V2 m ρ c main_v3 = Strip.strip (V1 m ρ c main_cst) (V1 m ρ c main_v0) (V1 m ρ c main_v1) (V1 m ρ c main_v2) :=
    (hF0 m ρ c 4).symm.trans (Strip.final (V1 m ρ) c)
  have hc : V1 m ρ c main_cst = coords := by
    show StableHlo.after hostOps0 (W0 m ρ c) _ = _
    after_results
    rfl
  have ha : V1 m ρ c main_v0 = transpose S512x2 [1, 0] (m ((c.tc : Thread nD τ).loc main_arg0)) transposes_S2x512_S512x2_1_0 := by
    show StableHlo.after hostOps0 (W0 m ρ c) _ = _
    after_results
  have hb : V1 m ρ c main_v1 = shapeCast S512x1 (m ((c.tc : Thread nD τ).loc main_arg1)) shapeCasts_S512_S512x1 := by
    show StableHlo.after hostOps0 (W0 m ρ c) _ = _
    after_results
    rfl
  have hd : V1 m ρ c main_v2 = transpose S32x512 [1, 0] (m ((c.tc : Thread nD τ).loc main_arg2)) transposes_S512x32_S32x512_1_0 := by
    show StableHlo.after hostOps0 (W0 m ρ c) _ = _
    after_results
  refine ((hF1 m ρ c 1).symm.trans (Expand.final (V3 m ρ) c)).trans ?_
  rw [h1, h0, hc, ha, hb, hd]
  rfl

set_option backward.isDefEq.respectTransparency.types false in
/-- Every run of the kernel terminates with its result holding `value` of the arguments, the arguments unchanged, and all
    counters at zero. -/
theorem run : θ_run defs (onTc (τ := τ) (main (F := Ideal))) ⟨m, fun _ => 0, ρ⟩ (fun r => (∀ c : Dev nD,
      r.2.mem ((c.tc : Thread nD τ).loc main_v5)
        = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c =>
      ⟨(h c _ (mem_uc main_v5 (by decide))).trans (kernelValue m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩, funext fun g => hz g (.inr (no_unscoped g.2))⟩)

end Cert.KernelIdeal.Whole

end
-- ==== Proof.RefIndex.lean ====
/- The reference's table of relative position indices, read at a pair of positions. -/
module

public import proofs.«01_k».proof.Proof.Gen.ReferenceIdeal
public import Idealize.ShloMosaic.Lib.Pointwise
public import Idealize.ShloMosaic.Lib.WordCmp
public import Idealize.ShloMosaic.Lib.Routing.Ops

@[expose] public section

set_option maxRecDepth 16384

noncomputable section

namespace Cert.ReferenceIdeal.Index

open Cert.ReferenceIdeal Cert.ReferenceIdeal.Gen Idealize.ShloMosaic Idealize.ShloMosaic.TcCoe Idealize.SL.Sem

/-- The row (entry 0) and the column (entry 1) of each of the 576 positions of the 24 × 24 grid. -/
def posWord : IVec S2x576 32 :=
  shapeCast S2x576 (concatenate S2x24x24 0 [⟨S1x24x24, (broadcastInDim S1x24x24 ![1, 2] bcast_S24x24_S1x24x24_1_2 (broadcastInDim S24x24 ![0] bcast_S24_S24x24_0 (iotaInDim S24 32 0)))⟩, ⟨S1x24x24, (broadcastInDim S1x24x24 ![1, 2] bcast_S24x24_S1x24x24_1_2 (broadcastInDim S24x24 ![1] bcast_S24_S24x24_1 (iotaInDim S24 32 0)))⟩] concatenates_S1x24x24_S1x24x24_S2x24x24_d0) shapeCasts_S2x24x24_S2x576

/-- The weighted relative offsets, one per axis, of each pair of positions. -/
def offWord : IVec S576x576x2 32 :=
  muli (addi (transpose S576x576x2 [1, 2, 0] (subi (broadcastInDim S2x576x576 ![0, 1, 2] bcast_S2x576x1_S2x576x576_0_1_2 (broadcastInDim S2x576x1 ![0, 1] bcast_S2x576_S2x576x1_0_1 posWord)) (broadcastInDim S2x576x576 ![0, 1, 2] bcast_S2x1x576_S2x576x576_0_1_2 (broadcastInDim S2x1x576 ![0, 2] bcast_S2x576_S2x1x576_0_2 posWord))) transposes_S2x576x576_S576x576x2_1_2_0) (broadcastInDim S576x576x2 ![0, 1, 2] bcast_S1x1x2_S576x576x2_0_1_2 (broadcastInDim S1x1x2 ![2] bcast_S2_S1x1x2_2 (constantI S2 32 23#32)))) (broadcastInDim S576x576x2 ![0, 1, 2] bcast_S1x1x2_S576x576x2_0_1_2 (broadcastInDim S1x1x2 ![2] bcast_S2_S1x1x2_2 ((fun i => lit1 (S2.rowMajor i)))))

/-- The relative position index of each pair of positions, as one list. -/
def idxWord : IVec S331776 32 :=
  shapeCast S331776 (Host.reduce IntOp.addi offWord (constantI S_ 32 0#32) reducesTo_S576x576x2_S576x576_d2 h_S_) shapeCasts_S576x576_S331776

/-- That list as the rows to gather: an index below zero would count from the end. -/
def startWord : IVec S331776x1 32 :=
  broadcastInDim S331776x1 ![0] bcast_S331776_S331776x1_0 (select (cmpi .slt idxWord (broadcastInDim S331776 ![] bcast_S_S331776 (constantI S_ 32 0#32))) (addi idxWord (broadcastInDim S331776 ![] bcast_S_S331776 (constantI S_ 32 2209#32))) idxWord)

/-- Entry 0 of a position is its row. -/
theorem posWord_row (p : Fin 576) : posWord (ix2 0 p) = BitVec.ofNat 32 (p.val / 24) := by
  pointwise [posWord]

/-- Entry 1 of a position is its column. -/
theorem posWord_col (p : Fin 576) : posWord (ix2 1 p) = BitVec.ofNat 32 (p.val % 24) := by
  pointwise [posWord]

/-- The difference of two numbers below 24, shifted by 23, is that of the words. -/
theorem shifted (a b : ℕ) (ha : a < 24) (hb : b < 24) :
    IntOp.addi (IntOp.subi (BitVec.ofNat 32 a) (BitVec.ofNat 32 b)) 23#32 = BitVec.ofNat 32 (a + 23 - b) := by
  apply BitVec.eq_of_toNat_eq
  simp only [IntOp.addi, IntOp.subi, BitVec.toNat_add, BitVec.toNat_sub, BitVec.toNat_ofNat]
  omega

/-- The offset of the rows, weighted by the 47 columns of the table. -/
theorem offWord_row (p q : Fin 576) :
    offWord (ix3 p q 0) = BitVec.ofNat 32 ((p.val / 24 + 23 - q.val / 24) * 47) := by
  have h : offWord (ix3 p q 0) = IntOp.muli (IntOp.addi (IntOp.subi (posWord (ix2 0 p)) (posWord (ix2 0 q))) 23#32) (lit1 (S2.rowMajor (ix1 0))) := by
    pointwise [offWord]
  have hl : lit1 (S2.rowMajor (ix1 0)) = BitVec.ofNat 32 47 := by decide
  rw [h, hl, posWord_row, posWord_row, shifted _ _ (by omega) (by omega)]
  exact (BitVec.ofNat_mul ..).symm

/-- The offset of the columns. -/
theorem offWord_col (p q : Fin 576) :
    offWord (ix3 p q 1) = BitVec.ofNat 32 (p.val % 24 + 23 - q.val % 24) := by
  have h : offWord (ix3 p q 1) = IntOp.muli (IntOp.addi (IntOp.subi (posWord (ix2 1 p)) (posWord (ix2 1 q))) 23#32) (lit1 (S2.rowMajor (ix1 1))) := by
    pointwise [offWord]
  have hl : lit1 (S2.rowMajor (ix1 1)) = BitVec.ofNat 32 1 := by decide
  rw [h, hl, posWord_col, posWord_col, shifted _ _ (by omega) (by omega)]
  exact (BitVec.ofNat_mul ..).symm.trans (by rw [Nat.mul_one])

/-- The row of the 2209-row table which the pair of positions `p`, `q` reads. -/
def tableRow (p q : ℕ) : ℕ := (p / 24 + 23 - q / 24) * 47 + (p % 24 + 23 - q % 24)

/-- That row is one of the table's. -/
theorem tableRow_lt (p q : Fin 576) : tableRow p.val q.val < 2209 := by
  have := p.isLt
  unfold tableRow
  omega

/-- The relative position index of the pair that stands at place `n` of the list. -/
theorem idxWord_at (n : Fin 331776) : idxWord (ix1 n) = BitVec.ofNat 32 (tableRow (n.val / 576) (n.val % 576)) := by
  have h : idxWord (ix1 n) = Finset.fold IntOp.addi (0#32) (fun x => offWord (ix3 ⟨n.val / 576, by omega⟩ ⟨n.val % 576, by omega⟩ x)) Finset.univ := by
    pointwise [idxWord]
  have hu : (Finset.univ : Finset (Fin 2)) = {0, 1} := by decide
  rw [h, hu, Finset.fold_insert (by decide), Finset.fold_singleton, offWord_row, offWord_col]
  simp only [tableRow, IntOp.addi, BitVec.ofNat_add]
  rw [BitVec.add_zero]

/-- No index is below zero, so the row gathered is the index itself. -/
theorem startWord_at (n : Fin 331776) : startWord (ix2 n 0) = BitVec.ofNat 32 (tableRow (n.val / 576) (n.val % 576)) := by
  have h : startWord (ix2 n 0) = Scalar.select (IntOp.cmpi .slt (idxWord (ix1 n)) 0#32) (IntOp.addi (idxWord (ix1 n)) 2209#32) (idxWord (ix1 n)) := by
    pointwise [startWord]
  have hlt := tableRow_lt ⟨n.val / 576, by omega⟩ ⟨n.val % 576, by omega⟩
  rw [h, idxWord_at]
  generalize tableRow (n.val / 576) (n.val % 576) = t at hlt ⊢
  have hc : IntOp.cmpi .slt (BitVec.ofNat 32 t) 0#32 = 0#1 := by
    rw [WordCmp.cmpi_slt_ofNat (a := t) (b := 0) (by omega) (by omega)]
    rfl
  rw [hc]
  rfl

end Cert.ReferenceIdeal.Index

end
-- ==== Proof.RefValue.lean ====
/- The reference's result at one place. -/
module

public import proofs.«01_k».proof.Proof.Gen.ReferenceIdeal.Run
public import proofs.«01_k».proof.Proof.RefIndex

@[expose] public section

set_option maxRecDepth 16384

noncomputable section

namespace Cert.ReferenceIdeal.Bias

open Cert.ReferenceIdeal Cert.ReferenceIdeal.Gen Idealize.ShloMosaic Idealize.ShloMosaic.TcCoe Idealize.SL.Sem

/-- The coordinates of the 2209 relative positions. -/
def coords : FVec Ideal S2209x2 .f32 := fun i => FloatOps.ofBits .f32 (lit0 (S2209x2.rowMajor i))

/-- The two-layer network at every relative position: one row of 32 numbers for each. -/
def table (x : FVec Ideal S2x512 .f32) (b : FVec Ideal S512 .f32) (w : FVec Ideal S512x32 .f32) : FVec Ideal S2209x32 .f32 :=
  Host.dotGeneral dot_S2209x512_S512x32_S2209x32_1_0_0_1_n_n none (maximumf (addf (Host.dotGeneral dot_S2209x2_S2x512_S2209x512_1_0_0_1_n_n none coords x) (broadcastInDim S2209x512 ![0, 1] bcast_S1x512_S2209x512_0_1 (broadcastInDim S1x512 ![1] bcast_S512_S1x512_1 b))) (broadcastInDim S2209x512 ![] bcast_S_S2209x512 (constant S_ .f32 0x00000000#32))) w

/-- The rows of that table gathered for every pair of positions. -/
def rows (T : FVec Ideal S2209x32 .f32) : FVec Ideal S331776x32 .f32 :=
  Host.gather gather_S2209x32_S331776x1_S331776x32_1_0_n_n_0_1_132 T Index.startWord

/-- Sixteen times the logistic function of the gathered rows, the heads moved to the front. -/
def squash (R : FVec Ideal S331776x32 .f32) : FVec Ideal S32x576x576 .f32 :=
  mulf (broadcastInDim S32x576x576 ![] bcast_S_S32x576x576 (constant S_ .f32 0x41800000#32)) (Host.divf (broadcastInDim S32x576x576 ![] bcast_S_S32x576x576 (constant S_ .f32 0x3F800000#32)) (addf (broadcastInDim S32x576x576 ![] bcast_S_S32x576x576 (constant S_ .f32 0x3F800000#32)) (Host.exp (Host.negf (transpose S32x576x576 [2, 0, 1] (shapeCast S576x576x32 R shapeCasts_S331776x32_S576x576x32) transposes_S576x576x32_S32x576x576_2_0_1)))))

/-- The reference's run returns the composition of these. -/
theorem result (m : (ℓ : Loc nD τ sig) → Buf (Elt Ideal) ℓ) (c : Dev nD) :
    Value.res_main_v44 m c = squash (rows (table (m ((c.tc : Thread nD τ).loc main_arg0)) (m ((c.tc : Thread nD τ).loc main_arg1)) (m ((c.tc : Thread nD τ).loc main_arg2)))) := by
  unfold Value.res_main_v44 squash rows table coords Index.startWord Index.idxWord Index.offWord Index.posWord
  rfl

/-- One entry of the table. -/
theorem table_at (x : FVec Ideal S2x512 .f32) (b : FVec Ideal S512 .f32) (w : FVec Ideal S512x32 .f32) (r : Fin 2209) (h : Fin 32) :
    table x b w (ix2 r h) = ∑ k : Fin 512, max (coords (ix2 r 0) * x (ix2 0 k) + coords (ix2 r 1) * x (ix2 1 k) + b (ix1 k)) 0 * w (ix2 k h) := by
  have e : table x b w (ix2 r h) = ∑ k : Fin 512, max ((∑ d : Fin 2, coords (ix2 r d) * x (ix2 d k)) + b (ix1 k)) 0 * w (ix2 k h) := by
    pointwise [table]
  rw [e]
  exact Finset.sum_congr rfl fun k _ => by rw [Fin.sum_univ_two]

/-- A gathered row is the table's row of that pair of positions. -/
theorem rows_at (T : FVec Ideal S2209x32 .f32) (n : Fin 331776) (h : Fin 32) (r : Fin 2209)
    (hr : r.val = Index.tableRow (n.val / 576) (n.val % 576)) : rows T (ix2 n h) = T (ix2 r h) :=
  Routing.gather_row gather_S2209x32_S331776x1_S331776x32_1_0_n_n_0_1_132 rfl rfl rfl rfl rfl T Index.startWord n h r
    ((Index.startWord_at n).trans (by rw [hr])) (by omega)

/-- The logistic function of one gathered number. -/
theorem squash_at (R : FVec Ideal S331776x32 .f32) (h : Fin 32) (p q : Fin 576) :
    squash R (ix3 h p q) = Ideal.ofBits .f32 0x41800000#32 * Ideal.logistic (R (ix2 ⟨p.val * 576 + q.val, by omega⟩ h)) := by
  unfold Ideal.logistic
  pointwise [squash]

end Cert.ReferenceIdeal.Bias

end
-- ==== Proof.Axis.lean ====
/- The logarithmic coordinate of one axis, as words: the 47 values that both programs' coordinate tables repeat. -/
module

public import Idealize.ShloMosaic.Lib.Pointwise

@[expose] public section

noncomputable section

namespace Cert.Proof

/-- The word of the coordinate of relative position `a - 23` along one axis, for `a` from 0 to 46. -/
def axis (a : Nat) : BitVec 32 :=
  match a with
  | 0 => 0xBF874009#32
  | 1 => 0xBF84D2F2#32
  | 2 => 0xBF824C5F#32
  | 3 => 0xBF7F5440#32
  | 4 => 0xBF79D379#32
  | 5 => 0xBF7410C3#32
  | 6 => 0xBF6E05A6#32
  | 7 => 0xBF67AAA5#32
  | 8 => 0xBF60F70F#32
  | 9 => 0xBF59E0AD#32
  | 10 => 0xBF525B6E#32
  | 11 => 0xBF4A58E0#32
  | 12 => 0xBF41C790#32
  | 13 => 0xBF38921D#32
  | 14 => 0xBF2E9DF8#32
  | 15 => 0xBF23C988#32
  | 16 => 0xBF17E979#32
  | 17 => 0xBF0AC48F#32
  | 18 => 0xBEF819E8#32
  | 19 => 0xBED6AA06#32
  | 20 => 0xBEAFF641#32
  | 21 => 0xBE82054F#32
  | 22 => 0xBE12FD67#32
  | 23 => 0x00000000#32
  | 24 => 0x3E12FD67#32
  | 25 => 0x3E82054F#32
  | 26 => 0x3EAFF641#32
  | 27 => 0x3ED6AA06#32
  | 28 => 0x3EF819E8#32
  | 29 => 0x3F0AC48F#32
  | 30 => 0x3F17E979#32
  | 31 => 0x3F23C988#32
  | 32 => 0x3F2E9DF8#32
  | 33 => 0x3F38921D#32
  | 34 => 0x3F41C790#32
  | 35 => 0x3F4A58E0#32
  | 36 => 0x3F525B6E#32
  | 37 => 0x3F59E0AD#32
  | 38 => 0x3F60F70F#32
  | 39 => 0x3F67AAA5#32
  | 40 => 0x3F6E05A6#32
  | 41 => 0x3F7410C3#32
  | 42 => 0x3F79D379#32
  | 43 => 0x3F7F5440#32
  | 44 => 0x3F824C5F#32
  | 45 => 0x3F84D2F2#32
  | 46 => 0x3F874009#32
  | _ => 0#32

end Cert.Proof

end
-- ==== Proof.KerTable0.lean ====
/- The kernel's coordinate table, its planes 0 to 2 of 24: 48 rows of 24 words per plane and coordinate. -/
module

public import proofs.«01_k».proof.KernelIdeal
public import proofs.«01_k».proof.Proof.Axis

@[expose] public section

noncomputable section

namespace Cert.Proof

set_option maxRecDepth 16384 in
/-- Planes 0 to 2, first coordinate: row `s` holds the coordinate `46 - s` throughout. -/
theorem ker_table_fst_0 : ∀ (i : Fin 3) (s : Fin 47) (t : Fin 24),
    Cert.KernelIdeal.lit0t ((3 * 0 + i.val) * 1152 + s.val * 24 + t.val) = axis (46 - s.val) := by decide +kernel

set_option maxRecDepth 16384 in
/-- Planes 0 to 2, second coordinate: place `t` of plane `p` holds the coordinate `p + 23 - t` in every row. -/
theorem ker_table_snd_0 : ∀ (i : Fin 3) (s : Fin 47) (t : Fin 24),
    Cert.KernelIdeal.lit0t (27648 + (3 * 0 + i.val) * 1152 + s.val * 24 + t.val)
      = axis (3 * 0 + i.val + 23 - t.val) := by decide +kernel

end Cert.Proof

end
-- ==== Proof.KerTable1.lean ====
/- The kernel's coordinate table, its planes 3 to 5 of 24: 48 rows of 24 words per plane and coordinate. -/
module

public import proofs.«01_k».proof.KernelIdeal
public import proofs.«01_k».proof.Proof.Axis

@[expose] public section

noncomputable section

namespace Cert.Proof

set_option maxRecDepth 16384 in
/-- Planes 3 to 5, first coordinate: row `s` holds the coordinate `46 - s` throughout. -/
theorem ker_table_fst_1 : ∀ (i : Fin 3) (s : Fin 47) (t : Fin 24),
    Cert.KernelIdeal.lit0t ((3 * 1 + i.val) * 1152 + s.val * 24 + t.val) = axis (46 - s.val) := by decide +kernel

set_option maxRecDepth 16384 in
/-- Planes 3 to 5, second coordinate: place `t` of plane `p` holds the coordinate `p + 23 - t` in every row. -/
theorem ker_table_snd_1 : ∀ (i : Fin 3) (s : Fin 47) (t : Fin 24),
    Cert.KernelIdeal.lit0t (27648 + (3 * 1 + i.val) * 1152 + s.val * 24 + t.val)
      = axis (3 * 1 + i.val + 23 - t.val) := by decide +kernel

end Cert.Proof

end
-- ==== Proof.KerTable2.lean ====
/- The kernel's coordinate table, its planes 6 to 8 of 24: 48 rows of 24 words per plane and coordinate. -/
module

public import proofs.«01_k».proof.KernelIdeal
public import proofs.«01_k».proof.Proof.Axis

@[expose] public section

noncomputable section

namespace Cert.Proof

set_option maxRecDepth 16384 in
/-- Planes 6 to 8, first coordinate: row `s` holds the coordinate `46 - s` throughout. -/
theorem ker_table_fst_2 : ∀ (i : Fin 3) (s : Fin 47) (t : Fin 24),
    Cert.KernelIdeal.lit0t ((3 * 2 + i.val) * 1152 + s.val * 24 + t.val) = axis (46 - s.val) := by decide +kernel

set_option maxRecDepth 16384 in
/-- Planes 6 to 8, second coordinate: place `t` of plane `p` holds the coordinate `p + 23 - t` in every row. -/
theorem ker_table_snd_2 : ∀ (i : Fin 3) (s : Fin 47) (t : Fin 24),
    Cert.KernelIdeal.lit0t (27648 + (3 * 2 + i.val) * 1152 + s.val * 24 + t.val)
      = axis (3 * 2 + i.val + 23 - t.val) := by decide +kernel

end Cert.Proof

end
-- ==== Proof.KerTable3.lean ====
/- The kernel's coordinate table, its planes 9 to 11 of 24: 48 rows of 24 words per plane and coordinate. -/
module

public import proofs.«01_k».proof.KernelIdeal
public import proofs.«01_k».proof.Proof.Axis

@[expose] public section

noncomputable section

namespace Cert.Proof

set_option maxRecDepth 16384 in
/-- Planes 9 to 11, first coordinate: row `s` holds the coordinate `46 - s` throughout. -/
theorem ker_table_fst_3 : ∀ (i : Fin 3) (s : Fin 47) (t : Fin 24),
    Cert.KernelIdeal.lit0t ((3 * 3 + i.val) * 1152 + s.val * 24 + t.val) = axis (46 - s.val) := by decide +kernel

set_option maxRecDepth 16384 in
/-- Planes 9 to 11, second coordinate: place `t` of plane `p` holds the coordinate `p + 23 - t` in every row. -/
theorem ker_table_snd_3 : ∀ (i : Fin 3) (s : Fin 47) (t : Fin 24),
    Cert.KernelIdeal.lit0t (27648 + (3 * 3 + i.val) * 1152 + s.val * 24 + t.val)
      = axis (3 * 3 + i.val + 23 - t.val) := by decide +kernel

end Cert.Proof

end
-- ==== Proof.KerTable4.lean ====
/- The kernel's coordinate table, its planes 12 to 14 of 24: 48 rows of 24 words per plane and coordinate. -/
module

public import proofs.«01_k».proof.KernelIdeal
public import proofs.«01_k».proof.Proof.Axis

@[expose] public section

noncomputable section

namespace Cert.Proof

set_option maxRecDepth 16384 in
/-- Planes 12 to 14, first coordinate: row `s` holds the coordinate `46 - s` throughout. -/
theorem ker_table_fst_4 : ∀ (i : Fin 3) (s : Fin 47) (t : Fin 24),
    Cert.KernelIdeal.lit0t ((3 * 4 + i.val) * 1152 + s.val * 24 + t.val) = axis (46 - s.val) := by decide +kernel

set_option maxRecDepth 16384 in
/-- Planes 12 to 14, second coordinate: place `t` of plane `p` holds the coordinate `p + 23 - t` in every row. -/
theorem ker_table_snd_4 : ∀ (i : Fin 3) (s : Fin 47) (t : Fin 24),
    Cert.KernelIdeal.lit0t (27648 + (3 * 4 + i.val) * 1152 + s.val * 24 + t.val)
      = axis (3 * 4 + i.val + 23 - t.val) := by decide +kernel

end Cert.Proof

end
-- ==== Proof.KerTable5.lean ====
/- The kernel's coordinate table, its planes 15 to 17 of 24: 48 rows of 24 words per plane and coordinate. -/
module

public import proofs.«01_k».proof.KernelIdeal
public import proofs.«01_k».proof.Proof.Axis

@[expose] public section

noncomputable section

namespace Cert.Proof

set_option maxRecDepth 16384 in
/-- Planes 15 to 17, first coordinate: row `s` holds the coordinate `46 - s` throughout. -/
theorem ker_table_fst_5 : ∀ (i : Fin 3) (s : Fin 47) (t : Fin 24),
    Cert.KernelIdeal.lit0t ((3 * 5 + i.val) * 1152 + s.val * 24 + t.val) = axis (46 - s.val) := by decide +kernel

set_option maxRecDepth 16384 in
/-- Planes 15 to 17, second coordinate: place `t` of plane `p` holds the coordinate `p + 23 - t` in every row. -/
theorem ker_table_snd_5 : ∀ (i : Fin 3) (s : Fin 47) (t : Fin 24),
    Cert.KernelIdeal.lit0t (27648 + (3 * 5 + i.val) * 1152 + s.val * 24 + t.val)
      = axis (3 * 5 + i.val + 23 - t.val) := by decide +kernel

end Cert.Proof

end
-- ==== Proof.KerTable6.lean ====
/- The kernel's coordinate table, its planes 18 to 20 of 24: 48 rows of 24 words per plane and coordinate. -/
module

public import proofs.«01_k».proof.KernelIdeal
public import proofs.«01_k».proof.Proof.Axis

@[expose] public section

noncomputable section

namespace Cert.Proof

set_option maxRecDepth 16384 in
/-- Planes 18 to 20, first coordinate: row `s` holds the coordinate `46 - s` throughout. -/
theorem ker_table_fst_6 : ∀ (i : Fin 3) (s : Fin 47) (t : Fin 24),
    Cert.KernelIdeal.lit0t ((3 * 6 + i.val) * 1152 + s.val * 24 + t.val) = axis (46 - s.val) := by decide +kernel

set_option maxRecDepth 16384 in
/-- Planes 18 to 20, second coordinate: place `t` of plane `p` holds the coordinate `p + 23 - t` in every row. -/
theorem ker_table_snd_6 : ∀ (i : Fin 3) (s : Fin 47) (t : Fin 24),
    Cert.KernelIdeal.lit0t (27648 + (3 * 6 + i.val) * 1152 + s.val * 24 + t.val)
      = axis (3 * 6 + i.val + 23 - t.val) := by decide +kernel

end Cert.Proof

end
-- ==== Proof.KerTable7.lean ====
/- The kernel's coordinate table, its planes 21 to 23 of 24: 48 rows of 24 words per plane and coordinate. -/
module

public import proofs.«01_k».proof.KernelIdeal
public import proofs.«01_k».proof.Proof.Axis

@[expose] public section

noncomputable section

namespace Cert.Proof

set_option maxRecDepth 16384 in
/-- Planes 21 to 23, first coordinate: row `s` holds the coordinate `46 - s` throughout. -/
theorem ker_table_fst_7 : ∀ (i : Fin 3) (s : Fin 47) (t : Fin 24),
    Cert.KernelIdeal.lit0t ((3 * 7 + i.val) * 1152 + s.val * 24 + t.val) = axis (46 - s.val) := by decide +kernel

set_option maxRecDepth 16384 in
/-- Planes 21 to 23, second coordinate: place `t` of plane `p` holds the coordinate `p + 23 - t` in every row. -/
theorem ker_table_snd_7 : ∀ (i : Fin 3) (s : Fin 47) (t : Fin 24),
    Cert.KernelIdeal.lit0t (27648 + (3 * 7 + i.val) * 1152 + s.val * 24 + t.val)
      = axis (3 * 7 + i.val + 23 - t.val) := by decide +kernel

end Cert.Proof

end
-- ==== Proof.Tables.lean ====
/- The kernel's coordinate table as a whole: plane `p`, row `s`, place `t` of it hold the coordinates `46 - s` and
   `p + 23 - t`. -/
module

public import proofs.«01_k».proof.Proof.KerTable0
public import proofs.«01_k».proof.Proof.KerTable1
public import proofs.«01_k».proof.Proof.KerTable2
public import proofs.«01_k».proof.Proof.KerTable3
public import proofs.«01_k».proof.Proof.KerTable4
public import proofs.«01_k».proof.Proof.KerTable5
public import proofs.«01_k».proof.Proof.KerTable6
public import proofs.«01_k».proof.Proof.KerTable7

@[expose] public section

noncomputable section

namespace Cert.Proof

/-- Eight statements about three planes each, put together: the first coordinate. -/
theorem planes_fst (L A : Nat → BitVec 32)
    (h0 : ∀ (i : Fin 3) (s : Fin 47) (t : Fin 24), L ((3 * 0 + i.val) * 1152 + s.val * 24 + t.val) = A (46 - s.val))
    (h1 : ∀ (i : Fin 3) (s : Fin 47) (t : Fin 24), L ((3 * 1 + i.val) * 1152 + s.val * 24 + t.val) = A (46 - s.val))
    (h2 : ∀ (i : Fin 3) (s : Fin 47) (t : Fin 24), L ((3 * 2 + i.val) * 1152 + s.val * 24 + t.val) = A (46 - s.val))
    (h3 : ∀ (i : Fin 3) (s : Fin 47) (t : Fin 24), L ((3 * 3 + i.val) * 1152 + s.val * 24 + t.val) = A (46 - s.val))
    (h4 : ∀ (i : Fin 3) (s : Fin 47) (t : Fin 24), L ((3 * 4 + i.val) * 1152 + s.val * 24 + t.val) = A (46 - s.val))
    (h5 : ∀ (i : Fin 3) (s : Fin 47) (t : Fin 24), L ((3 * 5 + i.val) * 1152 + s.val * 24 + t.val) = A (46 - s.val))
    (h6 : ∀ (i : Fin 3) (s : Fin 47) (t : Fin 24), L ((3 * 6 + i.val) * 1152 + s.val * 24 + t.val) = A (46 - s.val))
    (h7 : ∀ (i : Fin 3) (s : Fin 47) (t : Fin 24), L ((3 * 7 + i.val) * 1152 + s.val * 24 + t.val) = A (46 - s.val))
    (p : Fin 24) (s : Fin 47) (t : Fin 24) :
    L (p.val * 1152 + s.val * 24 + t.val) = A (46 - s.val) := by
  obtain ⟨p, hp⟩ := p
  obtain ⟨q, r, hq, hr, rfl⟩ : ∃ q r, q < 8 ∧ r < 3 ∧ p = 3 * q + r := ⟨p / 3, p % 3, by omega, by omega, by omega⟩
  interval_cases q
  · exact h0 ⟨r, hr⟩ s t
  · exact h1 ⟨r, hr⟩ s t
  · exact h2 ⟨r, hr⟩ s t
  · exact h3 ⟨r, hr⟩ s t
  · exact h4 ⟨r, hr⟩ s t
  · exact h5 ⟨r, hr⟩ s t
  · exact h6 ⟨r, hr⟩ s t
  · exact h7 ⟨r, hr⟩ s t

/-- The kernel's table at plane `p`, row `s` and place `t`: the first coordinate. -/
theorem ker_table_fst (p : Fin 24) (s : Fin 47) (t : Fin 24) :
    Cert.KernelIdeal.lit0t (p.val * 1152 + s.val * 24 + t.val) = axis (46 - s.val) :=
  planes_fst Cert.KernelIdeal.lit0t axis ker_table_fst_0 ker_table_fst_1 ker_table_fst_2 ker_table_fst_3 ker_table_fst_4 ker_table_fst_5 ker_table_fst_6 ker_table_fst_7 p s t

/-- Eight statements about three planes each, put together: the second coordinate. -/
theorem planes_snd (L A : Nat → BitVec 32)
    (h0 : ∀ (i : Fin 3) (s : Fin 47) (t : Fin 24), L (27648 + (3 * 0 + i.val) * 1152 + s.val * 24 + t.val) = A (3 * 0 + i.val + 23 - t.val))
    (h1 : ∀ (i : Fin 3) (s : Fin 47) (t : Fin 24), L (27648 + (3 * 1 + i.val) * 1152 + s.val * 24 + t.val) = A (3 * 1 + i.val + 23 - t.val))
    (h2 : ∀ (i : Fin 3) (s : Fin 47) (t : Fin 24), L (27648 + (3 * 2 + i.val) * 1152 + s.val * 24 + t.val) = A (3 * 2 + i.val + 23 - t.val))
    (h3 : ∀ (i : Fin 3) (s : Fin 47) (t : Fin 24), L (27648 + (3 * 3 + i.val) * 1152 + s.val * 24 + t.val) = A (3 * 3 + i.val + 23 - t.val))
    (h4 : ∀ (i : Fin 3) (s : Fin 47) (t : Fin 24), L (27648 + (3 * 4 + i.val) * 1152 + s.val * 24 + t.val) = A (3 * 4 + i.val + 23 - t.val))
    (h5 : ∀ (i : Fin 3) (s : Fin 47) (t : Fin 24), L (27648 + (3 * 5 + i.val) * 1152 + s.val * 24 + t.val) = A (3 * 5 + i.val + 23 - t.val))
    (h6 : ∀ (i : Fin 3) (s : Fin 47) (t : Fin 24), L (27648 + (3 * 6 + i.val) * 1152 + s.val * 24 + t.val) = A (3 * 6 + i.val + 23 - t.val))
    (h7 : ∀ (i : Fin 3) (s : Fin 47) (t : Fin 24), L (27648 + (3 * 7 + i.val) * 1152 + s.val * 24 + t.val) = A (3 * 7 + i.val + 23 - t.val))
    (p : Fin 24) (s : Fin 47) (t : Fin 24) :
    L (27648 + p.val * 1152 + s.val * 24 + t.val) = A (p.val + 23 - t.val) := by
  obtain ⟨p, hp⟩ := p
  obtain ⟨q, r, hq, hr, rfl⟩ : ∃ q r, q < 8 ∧ r < 3 ∧ p = 3 * q + r := ⟨p / 3, p % 3, by omega, by omega, by omega⟩
  interval_cases q
  · exact h0 ⟨r, hr⟩ s t
  · exact h1 ⟨r, hr⟩ s t
  · exact h2 ⟨r, hr⟩ s t
  · exact h3 ⟨r, hr⟩ s t
  · exact h4 ⟨r, hr⟩ s t
  · exact h5 ⟨r, hr⟩ s t
  · exact h6 ⟨r, hr⟩ s t
  · exact h7 ⟨r, hr⟩ s t

/-- The kernel's table at plane `p`, row `s` and place `t`: the second coordinate. -/
theorem ker_table_snd (p : Fin 24) (s : Fin 47) (t : Fin 24) :
    Cert.KernelIdeal.lit0t (27648 + p.val * 1152 + s.val * 24 + t.val) = axis (p.val + 23 - t.val) :=
  planes_snd Cert.KernelIdeal.lit0t axis ker_table_snd_0 ker_table_snd_1 ker_table_snd_2 ker_table_snd_3 ker_table_snd_4 ker_table_snd_5 ker_table_snd_6 ker_table_snd_7 p s t

end Cert.Proof

end
-- ==== Proof.RefTable.lean ====
/- The reference's table of 2209 coordinate pairs, read row by row: row `47 a + b` holds the coordinates `a` and `b`. -/
module

public import proofs.«01_k».proof.ReferenceIdeal
public import proofs.«01_k».proof.Proof.Axis

@[expose] public section

noncomputable section

namespace Cert.Proof

set_option maxRecDepth 16384 in
/-- The first coordinate of the reference's row `47 a + b` is the coordinate `a`. -/
theorem ref_table_fst : ∀ a b : Fin 47,
    Cert.ReferenceIdeal.lit0t (2 * (a.val * 47 + b.val)) = axis a.val := by decide +kernel

set_option maxRecDepth 16384 in
/-- The second coordinate of the reference's row `47 a + b` is the coordinate `b`. -/
theorem ref_table_snd : ∀ a b : Fin 47,
    Cert.ReferenceIdeal.lit0t (2 * (a.val * 47 + b.val) + 1) = axis b.val := by decide +kernel

end Cert.Proof

end
-- ==== Proof.Equation.lean ====
/- The kernel's and the reference's results are equal at every place. -/
module

public import proofs.«01_k».proof.Proof.Tables
public import proofs.«01_k».proof.Proof.RefTable
public import proofs.«01_k».proof.Proof.Whole
public import proofs.«01_k».proof.Proof.RefValue

@[expose] public section

set_option maxRecDepth 16384

noncomputable section

namespace Cert.Proof

open Idealize.ShloMosaic Idealize.ShloMosaic.TcCoe Idealize.SL.Sem

/-- Reading a list of words given by a function of the place. -/
theorem lookup {N : ℕ} (L : ℕ → BitVec 32) (f : Fin N → BitVec 32) (hf : f = fun i => L i.val) (i : Fin N) (n : ℕ)
    (h : i.val = n) : f i = L n := by
  subst h
  rw [hf]

/-- The reference's list of words, by place. -/
theorem ref_words : Cert.ReferenceIdeal.lit0 = fun i => Cert.ReferenceIdeal.lit0t i.val := funext fun ⟨_, _⟩ => rfl

/-- The kernel's list of words, by place. -/
theorem ker_words : Cert.KernelIdeal.lit0 = fun i => Cert.KernelIdeal.lit0t i.val := funext fun ⟨_, _⟩ => rfl

/-- Row `47 a + b` of the reference's table holds the axis value `a` first. -/
theorem ref_coord_fst (a b : Fin 47) (r : Fin 2209) (hr : r.val = a.val * 47 + b.val) :
    Cert.ReferenceIdeal.Bias.coords (ix2 r 0) = Ideal.ofBits .f32 (axis a.val) :=
  congrArg (Ideal.ofBits .f32) ((lookup _ _ ref_words _ (2 * (a.val * 47 + b.val))
    (by rw [Shape.rowMajor_val_two]; show r.val * 2 + 0 = _; omega)).trans (ref_table_fst a b))

/-- Row `47 a + b` of the reference's table holds the axis value `b` second. -/
theorem ref_coord_snd (a b : Fin 47) (r : Fin 2209) (hr : r.val = a.val * 47 + b.val) :
    Cert.ReferenceIdeal.Bias.coords (ix2 r 1) = Ideal.ofBits .f32 (axis b.val) :=
  congrArg (Ideal.ofBits .f32) ((lookup _ _ ref_words _ (2 * (a.val * 47 + b.val) + 1)
    (by rw [Shape.rowMajor_val_two]; show r.val * 2 + 1 = _; omega)).trans (ref_table_snd a b))

/-- The kernel's first coordinates, by plane, row and place. -/
theorem ker_coord_fst (p : Fin 24) (s : Fin 47) (t : Fin 24) (n : Fin 27648) (hn : n.val = p.val * 1152 + s.val * 24 + t.val) :
    Cert.KernelIdeal.Whole.coords (ix2 0 n) = Ideal.ofBits .f32 (axis (46 - s.val)) :=
  congrArg (Ideal.ofBits .f32) ((lookup _ _ ker_words _ (p.val * 1152 + s.val * 24 + t.val)
    (by rw [Shape.rowMajor_val_two]; show 0 * 27648 + n.val = _; omega)).trans (ker_table_fst p s t))

/-- The kernel's second coordinates, by plane, row and place. -/
theorem ker_coord_snd (p : Fin 24) (s : Fin 47) (t : Fin 24) (n : Fin 27648) (hn : n.val = p.val * 1152 + s.val * 24 + t.val) :
    Cert.KernelIdeal.Whole.coords (ix2 1 n) = Ideal.ofBits .f32 (axis (p.val + 23 - t.val)) :=
  congrArg (Ideal.ofBits .f32) ((lookup _ _ ker_words _ (27648 + p.val * 1152 + s.val * 24 + t.val)
    (by rw [Shape.rowMajor_val_two]; show 1 * 27648 + n.val = _; omega)).trans (ker_table_snd p s t))

section Kernel
open Cert.KernelIdeal

/-- The kernel's result at a place. -/
theorem ker_at (x : FVec Ideal S2x512 .f32) (b : FVec Ideal S512 .f32) (w : FVec Ideal S512x32 .f32) (h : Fin 32) (p q : Fin 576)
    (n : Fin 27648) (hn : n.val = p.val % 24 * 1152 + ((23 - p.val / 24) * 24 + q.val)) :
    Whole.value x b w (ix3 h p q) = Ideal.ofBits .f32 0x41800000#32 * Ideal.logistic (∑ k : Fin 512,
      w (ix2 k h) * max (x (ix2 0 k) * Whole.coords (ix2 0 n) + x (ix2 1 k) * Whole.coords (ix2 1 n) + b (ix1 k)) 0) := by
  have e : n = ⟨p.val % 24 * 1152 + ((23 - p.val / 24) * 24 + q.val), by omega⟩ := Fin.ext hn
  rw [e]
  pointwise [Whole.value, Expand.spread, Strip.strip]

end Kernel

section Reference
open Cert.ReferenceIdeal

/-- The reference's result at a place. -/
theorem ref_at (x : FVec Ideal S2x512 .f32) (b : FVec Ideal S512 .f32) (w : FVec Ideal S512x32 .f32) (h : Fin 32) (p q : Fin 576)
    (r : Fin 2209) (hr : r.val = Index.tableRow p.val q.val) :
    Bias.squash (Bias.rows (Bias.table x b w)) (ix3 h p q) = Ideal.ofBits .f32 0x41800000#32 * Ideal.logistic (∑ k : Fin 512,
      max (Bias.coords (ix2 r 0) * x (ix2 0 k) + Bias.coords (ix2 r 1) * x (ix2 1 k) + b (ix1 k)) 0 * w (ix2 k h)) := by
  have e1 : (p.val * 576 + q.val) / 576 = p.val := by omega
  have e2 : (p.val * 576 + q.val) % 576 = q.val := by omega
  rw [Bias.squash_at, Bias.rows_at _ _ _ r (by show r.val = Index.tableRow ((p.val * 576 + q.val) / 576) ((p.val * 576 + q.val) % 576); rw [e1, e2, hr]),
    Bias.table_at]

end Reference

/-- Both programs compute the same function of the three arguments. -/
theorem same (x : FVec Ideal Cert.KernelIdeal.S2x512 .f32) (b : FVec Ideal Cert.KernelIdeal.S512 .f32)
    (w : FVec Ideal Cert.KernelIdeal.S512x32 .f32) :
    Cert.ReferenceIdeal.Bias.squash (Cert.ReferenceIdeal.Bias.rows (Cert.ReferenceIdeal.Bias.table x b w)) = Cert.KernelIdeal.Whole.value x b w := by
  funext j
  obtain ⟨h, p, q, rfl⟩ : ∃ (h : Fin 32) (p q : Fin 576), j = ix3 h p q := ⟨j 0, j 1, j 2, by funext a; fin_cases a <;> rfl⟩
  have hp := p.isLt
  have hq := q.isLt
  have hs : 23 - p.val / 24 + q.val / 24 < 47 := by omega
  have hrow : Cert.ReferenceIdeal.Index.tableRow p.val q.val
      = (46 - (23 - p.val / 24 + q.val / 24)) * 47 + (p.val % 24 + 23 - q.val % 24) := by
    unfold Cert.ReferenceIdeal.Index.tableRow
    omega
  have hn : p.val % 24 * 1152 + ((23 - p.val / 24) * 24 + q.val)
      = p.val % 24 * 1152 + (23 - p.val / 24 + q.val / 24) * 24 + q.val % 24 := by omega
  have hlt : p.val % 24 * 1152 + ((23 - p.val / 24) * 24 + q.val) < 27648 := by omega
  refine (ref_at x b w h p q ⟨_, Cert.ReferenceIdeal.Index.tableRow_lt p q⟩ rfl).trans
    (Eq.trans ?_ (ker_at x b w h p q ⟨_, hlt⟩ rfl).symm)
  rw [ref_coord_fst ⟨46 - (23 - p.val / 24 + q.val / 24), by omega⟩ ⟨p.val % 24 + 23 - q.val % 24, by omega⟩ _ hrow,
    ref_coord_snd ⟨46 - (23 - p.val / 24 + q.val / 24), by omega⟩ ⟨p.val % 24 + 23 - q.val % 24, by omega⟩ _ hrow,
    ker_coord_fst ⟨p.val % 24, by omega⟩ ⟨23 - p.val / 24 + q.val / 24, hs⟩ ⟨q.val % 24, by omega⟩ _ hn,
    ker_coord_snd ⟨p.val % 24, by omega⟩ ⟨23 - p.val / 24 + q.val / 24, hs⟩ ⟨q.val % 24, by omega⟩ _ hn]
  refine congrArg (fun z => Ideal.ofBits .f32 0x41800000#32 * Ideal.logistic z) (Finset.sum_congr rfl fun k _ => ?_)
  rw [mul_comm (w (ix2 k h)), mul_comm (x (ix2 0 k)), mul_comm (x (ix2 1 k))]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Whole
public import proofs.«01_k».proof.Proof.RefValue
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates with its arguments unchanged and no counter raised. -/
theorem reference_frame : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal arguments the kernel and the reference end with equal results. -/
theorem equal_results : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Whole.value (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono (fun r h => h.1) (Cert.KernelIdeal.Whole.run m g)
  · refine (θ_run Cert.ReferenceIdeal.defs _ _).mono (fun r h c => ⟨?_, (h c).2⟩) (Cert.ReferenceIdeal.Value.run (F := Ideal) m' g')
    obtain ⟨h0, h1, h2⟩ := hagree c
    refine (h c).1.trans ((Cert.ReferenceIdeal.Bias.result m' c).trans ?_)
    rw [h0, h1, h2]
    exact same _ _ _

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, equal_results⟩

end Cert.Proof

end
